-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_indices)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_indices) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v18)) (v1 : (c : Dev Cert.Kernel.nD) → Buf (Elt Bits) ((c.tc : Thread Cert.Kernel.nD Cert.Kernel.τ).loc Cert.Kernel.main_v32)) (v2 : (c : Dev Cert.Kernel.nD) → Buf (Elt Bits) ((c.tc : Thread Cert.Kernel.nD Cert.Kernel.τ).loc Cert.Kernel.main_indices)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v18) = v0 c
          ∧ r.2.mem ((c.tc : Thread Cert.Kernel.nD Cert.Kernel.τ).loc Cert.Kernel.main_v32) = v1 c
          ∧ r.2.mem ((c.tc : Thread Cert.Kernel.nD Cert.Kernel.τ).loc Cert.Kernel.main_indices) = v2 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v18) = v0 c
          ∧ r.2.mem ((c.tc : Thread Cert.Reference.nD Cert.Reference.τ).loc Cert.Reference.main_v32) = v1 c
          ∧ r.2.mem ((c.tc : Thread Cert.Reference.nD Cert.Reference.τ).loc Cert.Reference.main_indices) = v2 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S10000x128 : Shape := ⟨2, ![10000, 128]⟩
abbrev S10000x10000 : Shape := ⟨2, ![10000, 10000]⟩
abbrev S1x128 : Shape := ⟨2, ![1, 128]⟩
abbrev S128x1 : Shape := ⟨2, ![128, 1]⟩
abbrev S10000x1 : Shape := ⟨2, ![10000, 1]⟩
abbrev S_ : Shape := ⟨0, ![]⟩
abbrev S10000 : Shape := ⟨1, ![10000]⟩
abbrev S5000 : Shape := ⟨1, ![5000]⟩
abbrev S5000x1 : Shape := ⟨2, ![5000, 1]⟩
abbrev S5000x128 : Shape := ⟨2, ![5000, 128]⟩
abbrev S5000x10000 : Shape := ⟨2, ![5000, 10000]⟩
abbrev S5000x5000 : Shape := ⟨2, ![5000, 5000]⟩

abbrev nBuf : Space → Nat
  | .hbm => 45
  | .vmem => 3
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S1x128, .f32⟩
  | .hbm, ⟨3, _⟩ => ⟨S128x1, .f32⟩
  | .hbm, ⟨4, _⟩ => ⟨S10000x1, .f32⟩
  | .hbm, ⟨5, _⟩ => ⟨S10000x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S10000x1, .f32⟩
  | .hbm, ⟨10, _⟩ => ⟨S10000x1, .f32⟩
  | .hbm, ⟨11, _⟩ => ⟨S10000, .f32⟩
  | .hbm, ⟨12, _⟩ => ⟨S10000, .f32⟩
  | .hbm, ⟨13, _⟩ => ⟨S5000, .f32⟩
  | .hbm, ⟨14, _⟩ => ⟨S5000, .i32⟩
  | .hbm, ⟨15, _⟩ => ⟨S_, .i32⟩
  | .hbm, ⟨16, _⟩ => ⟨S5000, .i32⟩
  | .hbm, ⟨17, _⟩ => ⟨S5000, .i1⟩
  | .hbm, ⟨18, _⟩ => ⟨S_, .i32⟩
  | .hbm, ⟨19, _⟩ => ⟨S5000, .i32⟩
  | .hbm, ⟨20, _⟩ => ⟨S5000, .i32⟩
  | .hbm, ⟨21, _⟩ => ⟨S5000, .i32⟩
  | .hbm, ⟨22, _⟩ => ⟨S5000x1, .i32⟩
  | .hbm, ⟨23, _⟩ => ⟨S5000x128, .f32⟩
  | .hbm, ⟨24, _⟩ => ⟨S5000x1, .f32⟩
  | .hbm, ⟨25, _⟩ => ⟨S5000x128, .f32⟩
  | .hbm, ⟨26, _⟩ => ⟨S5000x128, .f32⟩
  | .hbm, ⟨27, _⟩ => ⟨S_, .i32⟩
  | .hbm, ⟨28, _⟩ => ⟨S5000, .i32⟩
  | .hbm, ⟨29, _⟩ => ⟨S5000, .i1⟩
  | .hbm, ⟨30, _⟩ => ⟨S_, .i32⟩
  | .hbm, ⟨31, _⟩ => ⟨S5000, .i32⟩
  | .hbm, ⟨32, _⟩ => ⟨S5000, .i32⟩
  | .hbm, ⟨33, _⟩ => ⟨S5000, .i32⟩
  | .hbm, ⟨34, _⟩ => ⟨S5000x1, .i32⟩
  | .hbm, ⟨35, _⟩ => ⟨S5000x10000, .f32⟩
  | .hbm, ⟨36, _⟩ => ⟨S_, .i32⟩
  | .hbm, ⟨37, _⟩ => ⟨S5000, .i32⟩
  | .hbm, ⟨38, _⟩ => ⟨S5000, .i1⟩
  | .hbm, ⟨39, _⟩ => ⟨S_, .i32⟩
  | .hbm, ⟨40, _⟩ => ⟨S5000, .i32⟩
  | .hbm, ⟨41, _⟩ => ⟨S5000, .i32⟩
  | .hbm, ⟨42, _⟩ => ⟨S5000, .i32⟩
  | .hbm, ⟨43, _⟩ => ⟨S5000x1, .i32⟩
  | .hbm, ⟨44, _⟩ => ⟨S5000x5000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_values : Ref sig .tc := ⟨.hbm, 13, rfl⟩
abbrev main_indices : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S5000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference.lean ====
abbrev S10000x128 : Shape := ⟨2, ![10000, 128]⟩
abbrev S10000x10000 : Shape := ⟨2, ![10000, 10000]⟩
abbrev S1x128 : Shape := ⟨2, ![1, 128]⟩
abbrev S128x1 : Shape := ⟨2, ![128, 1]⟩
abbrev S10000x1 : Shape := ⟨2, ![10000, 1]⟩
abbrev S_ : Shape := ⟨0, ![]⟩
abbrev S10000 : Shape := ⟨1, ![10000]⟩
abbrev S5000 : Shape := ⟨1, ![5000]⟩
abbrev S5000x1 : Shape := ⟨2, ![5000, 1]⟩
abbrev S5000x128 : Shape := ⟨2, ![5000, 128]⟩
abbrev S5000x10000 : Shape := ⟨2, ![5000, 10000]⟩
abbrev S5000x5000 : Shape := ⟨2, ![5000, 5000]⟩

abbrev nBuf : Space → Nat
  | .hbm => 45
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S1x128, .f32⟩
  | .hbm, ⟨3, _⟩ => ⟨S128x1, .f32⟩
  | .hbm, ⟨4, _⟩ => ⟨S10000x1, .f32⟩
  | .hbm, ⟨5, _⟩ => ⟨S10000x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S10000x1, .f32⟩
  | .hbm, ⟨10, _⟩ => ⟨S10000x1, .f32⟩
  | .hbm, ⟨11, _⟩ => ⟨S10000, .f32⟩
  | .hbm, ⟨12, _⟩ => ⟨S10000, .f32⟩
  | .hbm, ⟨13, _⟩ => ⟨S5000, .f32⟩
  | .hbm, ⟨14, _⟩ => ⟨S5000, .i32⟩
  | .hbm, ⟨15, _⟩ => ⟨S_, .i32⟩
  | .hbm, ⟨16, _⟩ => ⟨S5000, .i32⟩
  | .hbm, ⟨17, _⟩ => ⟨S5000, .i1⟩
  | .hbm, ⟨18, _⟩ => ⟨S_, .i32⟩
  | .hbm, ⟨19, _⟩ => ⟨S5000, .i32⟩
  | .hbm, ⟨20, _⟩ => ⟨S5000, .i32⟩
  | .hbm, ⟨21, _⟩ => ⟨S5000, .i32⟩
  | .hbm, ⟨22, _⟩ => ⟨S5000x1, .i32⟩
  | .hbm, ⟨23, _⟩ => ⟨S5000x128, .f32⟩
  | .hbm, ⟨24, _⟩ => ⟨S5000x1, .f32⟩
  | .hbm, ⟨25, _⟩ => ⟨S5000x128, .f32⟩
  | .hbm, ⟨26, _⟩ => ⟨S5000x128, .f32⟩
  | .hbm, ⟨27, _⟩ => ⟨S_, .i32⟩
  | .hbm, ⟨28, _⟩ => ⟨S5000, .i32⟩
  | .hbm, ⟨29, _⟩ => ⟨S5000, .i1⟩
  | .hbm, ⟨30, _⟩ => ⟨S_, .i32⟩
  | .hbm, ⟨31, _⟩ => ⟨S5000, .i32⟩
  | .hbm, ⟨32, _⟩ => ⟨S5000, .i32⟩
  | .hbm, ⟨33, _⟩ => ⟨S5000, .i32⟩
  | .hbm, ⟨34, _⟩ => ⟨S5000x1, .i32⟩
  | .hbm, ⟨35, _⟩ => ⟨S5000x10000, .f32⟩
  | .hbm, ⟨36, _⟩ => ⟨S_, .i32⟩
  | .hbm, ⟨37, _⟩ => ⟨S5000, .i32⟩
  | .hbm, ⟨38, _⟩ => ⟨S5000, .i1⟩
  | .hbm, ⟨39, _⟩ => ⟨S_, .i32⟩
  | .hbm, ⟨40, _⟩ => ⟨S5000, .i32⟩
  | .hbm, ⟨41, _⟩ => ⟨S5000, .i32⟩
  | .hbm, ⟨42, _⟩ => ⟨S5000, .i32⟩
  | .hbm, ⟨43, _⟩ => ⟨S5000x1, .i32⟩
  | .hbm, ⟨44, _⟩ => ⟨S5000x5000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_values : Ref sig .tc := ⟨.hbm, 13, rfl⟩
abbrev main_indices : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Proof.KernelIdealRun.lean ====
/-
  What the idealized kernel computes, as functions of its three argument arrays, and the run that ends there.

  The one pallas_call multiplies the gathered rows by the broadcast weights in a single block, which is the whole
  array; the lines before it compute the scores, the kept nodes and their weights, and the lines after it gather the
  kept rows and columns of the adjacency matrix. Everything here holds for any float values: the algebraic claim reads
  it at the extended reals. `KernelRun.lean` is the same text for the program as printed.
-/
module

public import proofs.«01_k».proof.Proof.Gen.KernelIdeal.Frame
public import Idealize.ShloMosaic.Lib.Pipeline.Value
public import Idealize.ShloMosaic.Lib.StableHlo.Run

@[expose] public section

noncomputable section

namespace Cert.KernelIdeal.Pool

open Cert.KernelIdeal Cert.KernelIdeal.Gen Idealize.ShloMosaic Idealize.ShloMosaic.TcCoe Idealize.SL.Sem
open Idealize.ShloMosaic.StableHlo

variable {F : FTy → Type} [FloatOps F]

/-! ## The result arrays as functions of the arguments -/

/-- The projection of every node's features on the weight vector: `x @ W.T`. -/
def projection (x : Vec F S10000x128 .f32) (W : Vec F S1x128 .f32) : Vec F S10000x1 .f32 :=
  Host.dotGeneral dot_S10000x128_S128x1_S10000x1_1_0_0_1_n_n none x
    (transpose S128x1 [1, 0] W transposes_S1x128_S128x1_1_0)

/-- The scores: the projections over their common L2 norm, through the hyperbolic tangent. -/
def scores (x : Vec F S10000x128 .f32) (W : Vec F S1x128 .f32) : Vec F S10000 .f32 :=
  Host.tanh (shapeCast S10000 (Host.divf (projection x W) (broadcastInDim S10000x1 ![] bcast_S_S10000x1
    (Host.sqrt (Host.reduceAdd (mulf (projection x W) (projection x W)) (constant S_ .f32 0x00000000#32)
      reducesTo_S10000x1_S_d0_1 h_S_)))) shapeCasts_S10000x1_S10000)

/-- The 5000 largest scores, in descending order. -/
def weights (x : Vec F S10000x128 .f32) (W : Vec F S1x128 .f32) : Vec F S5000 .f32 :=
  (Host.topK S5000 0 (FloatOps.cmpfTotal .gt) (scores x W) sliceFits_S10000_S5000).1

/-- The nodes that have them. -/
def kept (x : Vec F S10000x128 .f32) (W : Vec F S1x128 .f32) : Vec F S5000 .i32 :=
  (Host.topK S5000 0 (FloatOps.cmpfTotal .gt) (scores x W) sliceFits_S10000_S5000).2

/-- Indices as a gather takes them: a negative one counts from the end, and each is a row of one word. -/
def asRows (i : Vec F S5000 .i32) : Vec F S5000x1 .i32 :=
  broadcastInDim S5000x1 ![0] bcast_S5000_S5000x1_0
    (select (cmpi .slt i (broadcastInDim S5000 ![] bcast_S_S5000 (constantI S_ 32 0#32)))
      (addi i (broadcastInDim S5000 ![] bcast_S_S5000 (constantI S_ 32 10000#32))) i)

/-- The kept nodes' features: what the pallas_call is given first. -/
def rows (x : Vec F S10000x128 .f32) (W : Vec F S1x128 .f32) : Vec F S5000x128 .f32 :=
  Host.gather gather_S10000x128_S5000x1_S5000x128_1_0_n_n_0_1_1128 x (asRows (kept x W))

/-- The kept nodes' weights, one row of 128 equal lanes per node: what it is given second. -/
def lanes (x : Vec F S10000x128 .f32) (W : Vec F S1x128 .f32) : Vec F S5000x128 .f32 :=
  broadcastInDim S5000x128 ![0, 1] bcast_S5000x1_S5000x128_0_1
    (broadcastInDim S5000x1 ![0] bcast_S5000_S5000x1_0 (weights x W))

/-- The first result: the kept nodes' features, each row times its node's weight. -/
def newX (x : Vec F S10000x128 .f32) (W : Vec F S1x128 .f32) : Vec F S5000x128 .f32 :=
  mulf (rows x W) (lanes x W)

/-- The second result: the adjacency matrix at the kept rows and then the kept columns. -/
def newA (x : Vec F S10000x128 .f32) (A : Vec F S10000x10000 .f32) (W : Vec F S1x128 .f32) : Vec F S5000x5000 .f32 :=
  Host.gather gather_S5000x10000_S5000x1_S5000x5000_0_1_n_n_1_1_50001
    (Host.gather gather_S10000x10000_S5000x1_S5000x10000_1_0_n_n_0_1_110000 A (asRows (kept x W)))
    (asRows (kept x W))

variable (m : (ℓ : Loc nD τ sig) → Buf (Elt F) ℓ) (ρ : Dev nD → PrngReg)

/-! ## The pallas_call -/

/-- The body's accesses start at the origin. -/
theorem origin : (![0, 0] : Fin 2 → Nat) = fun _ => 0 := funext fun a => by fin_cases a <;> rfl

/-- The body's product of two blocks is their elementwise product: its two casts keep the shape. -/
theorem pay (u v : Vec F S5000x128 .f32) : k0_pay1 u v = mulf u v := by
  unfold k0_pay1
  simp only [shapeCast_self]

/-- What a point writes back is its block of the product of the two operand arrays. -/
theorem flushed_eq (c : Dev nD) (t : Fin cfg0.N) :
    (dats m 0 c).flushed 2 t
      = (win0_2.blk t).view.read (Elt F) (mulf (s := S5000x128) (V m c main_v15) (V m c main_v17)) := by
  show (cfg0.win 2).cut (grid0.coords t) ((dats m 0 c).after 2 t) = _
  rw [after0_2]
  unfold out0_2
  rw [View.canon_unit_zero origin, View.ld_unit_zero origin, View.ld_unit_zero origin, pay]
  rfl

/-- The one point's block is the whole result array. -/
theorem mem_blk (t : Fin cfg0.N) (i : S5000x128.Idx) : i ∈ ((cfg0.win 2).blk t).view.set := by
  show i ∈ ((View.whole main_v18).slice (win0_2.rect t)).set
  rw [View.set_slice_whole, Rect.mem_set_unit]
  have e : ∀ a : Fin 2, win0_2.index t a * win0_2.size a = 0
      ∧ win0_2.xsize (grid0.coords t) a = S5000x128.size a := by
    revert t; exact (by decide +kernel : ∀ t : Fin grid0.N, ∀ a : Fin 2, win0_2.index t a * win0_2.size a = 0
      ∧ win0_2.xsize (grid0.coords t) a = S5000x128.size a)
  intro a
  show win0_2.index t a * win0_2.size a ≤ (i a : Nat)
    ∧ (i a : Nat) < win0_2.index t a * win0_2.size a + win0_2.xsize (grid0.coords t) a
  rw [(e a).1, (e a).2]
  exact ⟨Nat.zero_le _, by rw [Nat.zero_add]; exact (i a).isLt⟩

/-- After the pallas_call its result array is the product of its two operand arrays. -/
theorem product (c : Dev nD) :
    (dats m 0 c).arrAt 2 cfg0.N = mulf (s := S5000x128) (V m c main_v15) (V m c main_v17) :=
  (dats m 0 c).arrAt_eq_of_cover 2 _ (fun t _ => flushed_eq m c t)
    fun i => ⟨⟨0, by decide⟩, flush0_2 _, mem_blk _ i⟩

/-! ## The lines before it -/

/-- Its first operand is the kept nodes' features, -/
theorem V_rows (c : Dev nD) : V m c main_v15
    = rows (m ((c : Thread nD τ).loc main_arg0)) (m ((c : Thread nD τ).loc main_arg2)) := by
  show StableHlo.after hostOps0 (fun b => m (c, b)) (Proc.devRef .tc main_v15) = _
  after_results_simp <;> rfl

/-- its second their weights. -/
theorem V_lanes (c : Dev nD) : V m c main_v17
    = lanes (m ((c : Thread nD τ).loc main_arg0)) (m ((c : Thread nD τ).loc main_arg2)) := by
  show StableHlo.after hostOps0 (fun b => m (c, b)) (Proc.devRef .tc main_v17) = _
  after_results_simp <;> rfl

/-- The kept nodes' indices are there before it too. -/
theorem V_kept (c : Dev nD) : V m c main_indices
    = kept (m ((c : Thread nD τ).loc main_arg0)) (m ((c : Thread nD τ).loc main_arg2)) := by
  show StableHlo.after hostOps0 (fun b => m (c, b)) (Proc.devRef .tc main_indices) = _
  after_results_simp <;> rfl

/-! ## The lines after it -/

/-- Of any contents that hold the adjacency matrix and the indices, the later lines leave the matrix at the indexed
    rows and columns, -/
theorem after_newA (U : Valuation τ sig (Elt F)) : StableHlo.after hostOps1 U (Proc.devRef .tc main_v32)
    = Host.gather gather_S5000x10000_S5000x1_S5000x5000_0_1_n_n_1_1_50001
        (Host.gather gather_S10000x10000_S5000x1_S5000x10000_1_0_n_n_0_1_110000 (U (Proc.devRef .tc main_arg1))
          (asRows (F := F) (U (Proc.devRef .tc main_indices))))
        (asRows (F := F) (U (Proc.devRef .tc main_indices))) := by
  after_results_simp <;> rfl

/-- and the indices as they were. -/
theorem after_kept (U : Valuation τ sig (Elt F)) : StableHlo.after hostOps1 U (Proc.devRef .tc main_indices)
    = U (Proc.devRef .tc main_indices) := by
  after_results_simp <;> rfl

/-- A buffer that is no operand and no result of the pallas_call is after it as it was before. -/
theorem around (c : Dev nD) (b : Ref sig .tc) (hb : ∀ w, Pipeline.arrRef spec0 w ≠ b) :
    Pipeline.withArrays spec0 c (V0 m c) (fun w => (dats m 0 c).arrAt w cfg0.N) (Proc.devRef .tc b) = V m c b :=
  Pipeline.withArrays_of_ne _ c (V0 m c) _ b hb

/-! ## The run -/

/-- From any memory with zero counters every weakly fair execution of @main terminates with the three results at
    `newX`, `newA` and `kept` of the arguments, and the arguments unchanged. -/
theorem run : θ_run defs (onTc (τ := τ) (main (F := F))) ⟨m, fun _ => 0, ρ⟩ fun r => ∀ c : Dev nD,
      r.2.mem ((c.tc : Thread nD τ).loc main_v18)
        = newX (m ((c.tc : Thread nD τ).loc main_arg0)) (m ((c.tc : Thread nD τ).loc main_arg2))
      ∧ r.2.mem ((c.tc : Thread nD τ).loc main_v32)
        = newA (m ((c.tc : Thread nD τ).loc main_arg0)) (m ((c.tc : Thread nD τ).loc main_arg1))
            (m ((c.tc : Thread nD τ).loc main_arg2))
      ∧ r.2.mem ((c.tc : Thread nD τ).loc main_indices)
        = kept (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, ?_, ?_, ?_, ?_, ?_⟩) (run_main m ρ)
  · refine ((h c).1 2).trans ((product m c).trans ?_)
    rw [V_rows, V_lanes]
    rfl
  · refine ((h c).2 main_v32 (Pipeline.mem_restRefs_of main_v32 (by decide) (by decide))).trans ?_
    refine (after_newA _).trans ?_
    rw [around m c main_arg1 (by decide), around m c main_indices (by decide),
      V_main_arg1, V_kept]
    rfl
  · refine ((h c).2 main_indices (Pipeline.mem_restRefs_of main_indices (by decide) (by decide))).trans ?_
    refine (after_kept _).trans ?_
    rw [around m c main_indices (by decide), V_kept]
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.KernelIdeal.Pool

end
-- ==== Proof.lean ====
/-
  The certificate of graph top-k pooling: the scores `tanh (x Wᵀ / ‖x Wᵀ‖)`, the 5000 nodes with the largest ones, their
  features times their scores, and the adjacency matrix at their rows and columns.

  The frames are the generated runs'. The value claims put side by side the kernel's run, which `Proof/KernelRun.lean`
  and `Proof/KernelIdealRun.lean` read as functions of the arguments, and the reference's generated run.
-/
module

public import proofs.«01_k».proof.Defs
public import proofs.«01_k».proof.Proof.Gen.Reference.Run
public import proofs.«01_k».proof.Proof.Gen.ReferenceIdeal.Run
public import proofs.«01_k».proof.Proof.KernelRun
public import proofs.«01_k».proof.Proof.KernelIdealRun
public import Idealize.ShloMosaic.Lib.Quiescent
public import Idealize.ShloMosaic.Adequacy
public import Idealize.ShloMosaic.Init

@[expose] public section

noncomputable section

namespace Cert.Proof

open Idealize.ShloMosaic Idealize.SL.Sem

/-! ## The frames -/

/-- The kernel as printed: it terminates, leaves its arguments unchanged and every semaphore counter at zero. -/
theorem frame_kernel : Cert.quiescent_Kernel := fun m g _ => Cert.Kernel.Gen.frame m g

/-- The same of the idealized kernel. -/
theorem frame_kernelIdeal : Cert.quiescent_KernelIdeal := fun m g _ => Cert.KernelIdeal.Gen.frame m g

/-- The same of the reference at words: host lines alone, which have no semaphore. -/
theorem frame_reference : Cert.quiescent_Reference := fun m g _ =>
  (θ_run Cert.Reference.defs _ _).mono (fun r h => ⟨fun c => (h c).2.2.2, sem_eq_zero_of_no_sems rfl r.2⟩)
    (Cert.Reference.Value.run (F := Bits) m g)

/-- And at the extended reals. -/
theorem frame_referenceIdeal : Cert.quiescent_ReferenceIdeal := fun m g _ =>
  (θ_run Cert.ReferenceIdeal.defs _ _).mono (fun r h => ⟨fun c => (h c).2.2.2, sem_eq_zero_of_no_sems rfl r.2⟩)
    (Cert.ReferenceIdeal.Value.run (F := Ideal) m g)

/-! ## The values -/

/-- The reference's first result is the kernel's, as functions of the arguments: the same gathered rows and the same
    broadcast weights under one elementwise product. -/
theorem newX_ReferenceIdeal (m : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 m c
      = Cert.KernelIdeal.Pool.newX (F := Ideal) (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg2)) := rfl

/-- So is its second: the adjacency matrix at the kept rows and columns. -/
theorem newA_ReferenceIdeal (m : (ℓ : Loc Cert.ReferenceIdeal.nD Cert.ReferenceIdeal.τ Cert.ReferenceIdeal.sig) → Buf (Elt Ideal) ℓ) (c : Dev Cert.ReferenceIdeal.nD) :
    Cert.ReferenceIdeal.Value.res_out1 m c
      = Cert.KernelIdeal.Pool.newA (F := Ideal) (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2)) := rfl

/-- The reference's first result is the kernel's, as functions of the arguments: the same gathered rows and the same
    broadcast weights under one elementwise product. -/
theorem newX_Reference (m : (ℓ : Loc Cert.Reference.nD Cert.Reference.τ Cert.Reference.sig) → Buf (Elt Bits) ℓ) (c : Dev Cert.Reference.nD) :
    Cert.Reference.Value.res_out0 m c
      = Cert.Kernel.Pool.newX (F := Bits) (m ((c.tc : Thread Cert.Reference.nD Cert.Reference.τ).loc Cert.Reference.main_arg0))
          (m ((c.tc : Thread Cert.Reference.nD Cert.Reference.τ).loc Cert.Reference.main_arg2)) := rfl

/-- So is its second: the adjacency matrix at the kept rows and columns. -/
theorem newA_Reference (m : (ℓ : Loc Cert.Reference.nD Cert.Reference.τ Cert.Reference.sig) → Buf (Elt Bits) ℓ) (c : Dev Cert.Reference.nD) :
    Cert.Reference.Value.res_out1 m c
      = Cert.Kernel.Pool.newA (F := Bits) (m ((c.tc : Thread Cert.Reference.nD Cert.Reference.τ).loc Cert.Reference.main_arg0))
          (m ((c.tc : Thread Cert.Reference.nD Cert.Reference.τ).loc Cert.Reference.main_arg1))
          (m ((c.tc : Thread Cert.Reference.nD Cert.Reference.τ).loc Cert.Reference.main_arg2)) := rfl

/-- Over the extended reals the kernel and the reference, run from equal arguments, end with equal results, all three. -/
theorem algebraic : Cert.algebraic_KernelIdeal_ReferenceIdeal := by
  intro m g m' g' _ hagree
  refine ⟨fun c => Cert.KernelIdeal.Pool.newX (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    fun c => Cert.KernelIdeal.Pool.newA (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.KernelIdeal.Pool.kept (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.Pool.run m g,
    (θ_run Cert.ReferenceIdeal.defs _ _).mono (fun r h c => ?_) (Cert.ReferenceIdeal.Value.run (F := Ideal) m' g')⟩
  obtain ⟨hX, hA, hI, h0, h1, h2⟩ := h c
  obtain ⟨e0, e1, e2⟩ := hagree c
  refine ⟨hX.trans ((newX_ReferenceIdeal m' c).trans ?_), hA.trans ((newA_ReferenceIdeal m' c).trans ?_), hI.trans ?_, h0, h1, h2⟩
  · rw [e0, e2]
  · rw [e0, e1, e2]
  · rw [e0, e2]; rfl

/-- They end with the same words too, whatever the float operations are. -/
theorem bitexact : Cert.bitexact_Kernel_Reference := by
  intro m g m' g' _ hagree
  refine ⟨fun c => Cert.Kernel.Pool.newX (m ((c.tc : Thread Cert.Kernel.nD Cert.Kernel.τ).loc Cert.Kernel.main_arg0))
      (m ((c.tc : Thread Cert.Kernel.nD Cert.Kernel.τ).loc Cert.Kernel.main_arg2)),
    fun c => Cert.Kernel.Pool.newA (m ((c.tc : Thread Cert.Kernel.nD Cert.Kernel.τ).loc Cert.Kernel.main_arg0))
      (m ((c.tc : Thread Cert.Kernel.nD Cert.Kernel.τ).loc Cert.Kernel.main_arg1))
      (m ((c.tc : Thread Cert.Kernel.nD Cert.Kernel.τ).loc Cert.Kernel.main_arg2)),
    fun c => Cert.Kernel.Pool.kept (m ((c.tc : Thread Cert.Kernel.nD Cert.Kernel.τ).loc Cert.Kernel.main_arg0))
      (m ((c.tc : Thread Cert.Kernel.nD Cert.Kernel.τ).loc Cert.Kernel.main_arg2)),
    Cert.Kernel.Pool.run m g,
    (θ_run Cert.Reference.defs _ _).mono (fun r h c => ?_) (Cert.Reference.Value.run (F := Bits) m' g')⟩
  obtain ⟨hX, hA, hI, h0, h1, h2⟩ := h c
  obtain ⟨e0, e1, e2⟩ := hagree c
  refine ⟨hX.trans ((newX_Reference m' c).trans ?_), hA.trans ((newA_Reference m' c).trans ?_), hI.trans ?_, h0, h1, h2⟩
  · rw [e0, e2]
  · rw [e0, e1, e2]
  · rw [e0, e2]; rfl

/-- The certificate. -/
theorem claim : Cert.Claim :=
  ⟨Cert.Kernel.Gen.facts, Cert.KernelIdeal.Gen.facts, Cert.Reference.Gen.facts, Cert.ReferenceIdeal.Gen.facts,
    frame_kernel, frame_kernelIdeal, frame_reference, frame_referenceIdeal, trivial, algebraic, bitexact⟩

end Cert.Proof

end
